-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_query_key [hPre_finite_query_key : Cert.Pre_finite_query_key.Facts] (m : (ℓ : Loc Cert.KernelIdeal.nD Cert.KernelIdeal.τ Cert.KernelIdeal.sig) → Buf (Elt Ideal) ℓ) : Prop :=
  ∀ c : Dev Cert.KernelIdeal.nD,
    (Cert.Pre_finite_query_key.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_query_key.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_query_key [hPre_finite_query_key : Cert.Pre_finite_query_key.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_query_key.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_query_key.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_query_key [hKernelIdeal : Cert.KernelIdeal.Facts] [hPre_finite_query_key : Cert.Pre_finite_query_key.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_query_key m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_query_key [hReferenceIdeal : Cert.ReferenceIdeal.Facts] [hPre_finite_query_key : Cert.Pre_finite_query_key.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_query_key m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_query_key [hKernelIdeal : Cert.KernelIdeal.Facts] [hReferenceIdeal : Cert.ReferenceIdeal.Facts] [hPre_finite_query_key : Cert.Pre_finite_query_key.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_query_key m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_query_key : Cert.Pre_finite_query_key.Facts),
    quiescent_Kernel (hKernel := hKernel)
    ∧ quiescent_KernelIdeal (hKernelIdeal := hKernelIdeal)
    ∧ quiescent_KernelIdeal_pre_finite_query_key (hKernelIdeal := hKernelIdeal) (hPre_finite_query_key := hPre_finite_query_key)
    ∧ quiescent_ReferenceIdeal (hReferenceIdeal := hReferenceIdeal)
    ∧ quiescent_ReferenceIdeal_pre_finite_query_key (hReferenceIdeal := hReferenceIdeal) (hPre_finite_query_key := hPre_finite_query_key)
    ∧ preserves_Kernel_KernelIdeal
    ∧ algebraic_KernelIdeal_ReferenceIdeal_pre_finite_query_key (hKernelIdeal := hKernelIdeal) (hReferenceIdeal := hReferenceIdeal) (hPre_finite_query_key := hPre_finite_query_key)
-- ==== Pre_finite_query_key.lean ====
abbrev S1x16x2048x128 : Shape := ⟨4, ![1, 16, 2048, 128]⟩
abbrev S_ : Shape := ⟨0, ![]⟩

class Facts : Prop where
  bcast_S_S1x16x2048x128 : S_.BroadcastsInDim S1x16x2048x128 (![] : Fin 0 → Fin S1x16x2048x128.rank)

variable [Facts]

def fn {F : FTy → Type} [FloatOps F] (main_arg0 : FVec F S1x16x2048x128 .f32) (main_arg1 : FVec F S1x16x2048x128 .f32) (main_arg2 : FVec F S1x16x2048x128 .f32) : IVec S1x16x2048x128 1 × IVec S1x16x2048x128 1 :=
  let main_v0 : FVec F S1x16x2048x128 .f32 := Host.absf main_arg0
  let main_cst : FVec F S_ .f32 := constant S_ .f32 0x7F800000#32
  let main_v1 : FVec F S1x16x2048x128 .f32 := broadcastInDim S1x16x2048x128 ![] bcast_S_S1x16x2048x128 main_cst
  let main_v2 : IVec S1x16x2048x128 1 := cmpf .olt main_v0 main_v1
  let main_v3 : FVec F S1x16x2048x128 .f32 := Host.absf main_arg1
  let main_cst_0 : FVec F S_ .f32 := constant S_ .f32 0x7F800000#32
  let main_v4 : FVec F S1x16x2048x128 .f32 := broadcastInDim S1x16x2048x128 ![] bcast_S_S1x16x2048x128 main_cst_0
  let main_v5 : IVec S1x16x2048x128 1 := cmpf .olt main_v3 main_v4
  (main_v2, main_v5)
-- ==== Kernel.lean ====
abbrev S1x16x2048x128 : Shape := ⟨4, ![1, 16, 2048, 128]⟩
abbrev S16x2048x128 : Shape := ⟨3, ![16, 2048, 128]⟩
abbrev S1x2048x128 : Shape := ⟨3, ![1, 2048, 128]⟩
abbrev S2048x128 : Shape := ⟨2, ![2048, 128]⟩
abbrev S1x512x128 : Shape := ⟨3, ![1, 512, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x128, .f32⟩
  | .hbm, ⟨3, _⟩ => ⟨S16x2048x128, .f32⟩
  | .hbm, ⟨4, _⟩ => ⟨S16x2048x128, .f32⟩
  | .hbm, ⟨5, _⟩ => ⟨S16x2048x128, .f32⟩
  | .hbm, ⟨6, _⟩ => ⟨S16x2048x128, .f32⟩
  | .hbm, ⟨7, _⟩ => ⟨S1x16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x128, .bf16⟩
  | .local _ .vmem, ⟨9, _⟩ => ⟨S2048x128, .bf16⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x16x2048x128 : Shape := ⟨4, ![1, 16, 2048, 128]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x1, .f32⟩
  | .hbm, ⟨14, _⟩ => ⟨S_, .f32⟩
  | .hbm, ⟨15, _⟩ => ⟨S1x16x2048x1, .f32⟩
  | .hbm, ⟨16, _⟩ => ⟨S1x16x2048x1, .i1⟩
  | .hbm, ⟨17, _⟩ => ⟨S_, .f32⟩
  | .hbm, ⟨18, _⟩ => ⟨S1x16x2048x1, .f32⟩
  | .hbm, ⟨19, _⟩ => ⟨S1x16x2048x1, .f32⟩
  | .hbm, ⟨20, _⟩ => ⟨S1x16x2048x2048, .f32⟩
  | .hbm, ⟨21, _⟩ => ⟨S1x16x2048x2048, .f32⟩
  | .hbm, ⟨22, _⟩ => ⟨S1x16x2048x2048, .f32⟩
  | .hbm, ⟨23, _⟩ => ⟨S_, .f32⟩
  | .hbm, ⟨24, _⟩ => ⟨S1x16x2048, .f32⟩
  | .hbm, ⟨25, _⟩ => ⟨S1x16x2048x1, .f32⟩
  | .hbm, ⟨26, _⟩ => ⟨S1x16x2048x1, .f32⟩
  | .hbm, ⟨27, _⟩ => ⟨S1x16x2048x1, .f32⟩
  | .hbm, ⟨28, _⟩ => ⟨S1x16x2048x2048, .f32⟩
  | .hbm, ⟨29, _⟩ => ⟨S1x16x2048x2048, .f32⟩
  | .hbm, ⟨30, _⟩ => ⟨S1x16x2048x2048, .f32⟩
  | .hbm, ⟨31, _⟩ => ⟨S1x16x2048x128, .f32⟩
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Softmax.lean ====
/-
  The mathematics of one row of attention, with no program in sight: two spellings of
  `∑ k, softmax(s) k * v k` over the extended reals, and their equality when every score is a real number.

  The kernel subtracts the row's maximum, sums the exponentials times the values, and divides by the sum of the
  exponentials. The reference subtracts the log-sum-exp of the row and sums the exponentials times the values. The
  scores are real numbers; the values `v k` may be anything, an infinity included: the one law needed of them is that
  multiplication by a nonnegative real distributes over a sum of extended reals.
-/
module

public import Idealize.ShloMosaic.PureOps.Ideal
public import Idealize.ShloMosaic.PureOps.Ideal.Laws

@[expose] public section

noncomputable section

namespace Cert.Softmax

open Idealize.ShloMosaic

variable {n : ℕ}

/-- The largest score of a row (`⊥` for an empty row). -/
def rowMax (s : Fin n → EReal) : EReal := Finset.univ.fold max ⊥ s

/-- The kernel's row: exponentials of the scores less their maximum, times the values, summed; over the sum of the
    exponentials. -/
def quotient (s v : Fin n → EReal) : EReal :=
  Ideal.div (∑ k, Ideal.exp (s k - rowMax s) * v k) (∑ k, Ideal.exp (s k - rowMax s))

/-- A number the log-sum-exp may shift by: `x` itself when it is no infinity, else zero. -/
def finiteOrZero (x : EReal) : EReal := if max x (-x) < ⊤ then x else 0

/-- The logarithm of the sum of a row's exponentials, computed with the shift `finiteOrZero (rowMax s)`. -/
def logSumExp (s : Fin n → EReal) : EReal :=
  Ideal.log (∑ k, Ideal.exp (s k - finiteOrZero (rowMax s))) + finiteOrZero (rowMax s)

/-- The reference's row: exponentials of the scores less their log-sum-exp, times the values, summed. -/
def weighted (s v : Fin n → EReal) : EReal := ∑ k, Ideal.exp (s k - logSumExp s) * v k

/-- The coercion of a sum of reals is the sum of the coercions. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A nonnegative real factor distributes over any finite sum of extended reals. -/
theorem mul_sum_of_nonneg {ι : Type*} (S : Finset ι) {a : ℝ} (ha : 0 ≤ a) (f : ι → EReal) :
    (a : EReal) * ∑ k ∈ S, f k = ∑ k ∈ S, (a : EReal) * f k := by
  classical
  induction S using Finset.induction_on with
  | empty => simp
  | insert b S hb ih =>
    rw [Finset.sum_insert hb, Finset.sum_insert hb,
      EReal.left_distrib_of_nonneg_of_ne_top (EReal.coe_nonneg.mpr ha) (EReal.coe_ne_top a), ih]

/-- The maximum of a nonempty row of real scores is a real number. -/
theorem rowMax_real (hn : 0 < n) (r : Fin n → ℝ) : ∃ M : ℝ, rowMax (fun k => (r k : EReal)) = M := by
  have hlt : rowMax (fun k => (r k : EReal)) < ⊤ :=
    (Finset.fold_max_lt _).mpr ⟨bot_lt_top, fun k _ => EReal.coe_lt_top (r k)⟩
  have hgt : ⊥ < rowMax (fun k => (r k : EReal)) :=
    (Finset.lt_fold_max _).mpr (.inr ⟨⟨0, hn⟩, Finset.mem_univ _, EReal.bot_lt_coe _⟩)
  exact ⟨_, (EReal.coe_toReal hlt.ne hgt.ne').symm⟩

/-- A real number is its own finite shift. -/
theorem finiteOrZero_real (x : ℝ) : finiteOrZero (x : EReal) = x := by
  unfold finiteOrZero
  rw [if_pos]
  rw [← EReal.coe_neg]
  exact max_lt (EReal.coe_lt_top _) (EReal.coe_lt_top _)

/-- The two spellings of a row agree on real scores, whatever the values: with `M` the maximum and
    `L = ∑ exp (s k - M)`, a positive real, `exp (s k - (log L + M)) = (1 / L) * exp (s k - M)`, and the factor
    `1 / L` comes out of the sum. -/
theorem quotient_eq_weighted (hn : 0 < n) (r : Fin n → ℝ) (v : Fin n → EReal) :
    quotient (fun k => (r k : EReal)) v = weighted (fun k => (r k : EReal)) v := by
  obtain ⟨M, hM⟩ := rowMax_real hn r
  have hexp : ∀ k, Ideal.exp ((r k : EReal) - M) = ((Real.exp (r k - M) : ℝ) : EReal) := fun k => by
    rw [← EReal.coe_sub, Ideal.exp_coe]
  have hL : 0 < ∑ k, Real.exp (r k - M) :=
    Finset.sum_pos (fun k _ => Real.exp_pos _) ⟨⟨0, hn⟩, Finset.mem_univ _⟩
  unfold quotient weighted logSumExp
  simp only [hM, finiteOrZero_real, hexp, ← coe_sum]
  rw [Ideal.log_coe, if_neg hL.not_ge, Ideal.div_coe hL.ne', mul_comm, mul_sum_of_nonneg _ (by positivity)]
  refine Finset.sum_congr rfl fun k _ => ?_
  rw [← EReal.coe_add, ← EReal.coe_sub, Ideal.exp_coe, ← mul_assoc, ← EReal.coe_mul]
  congr 2
  rw [show r k - (Real.log (∑ k, Real.exp (r k - M)) + M) = (r k - M) - Real.log (∑ k, Real.exp (r k - M)) by ring,
    Real.exp_sub (r k - M), Real.exp_log hL]
  ring

/-- A score is the same number whether the scale multiplies the query first or the finished inner product: for real
    query, key and scale. -/
theorem scale_dot (q k : Fin n → ℝ) (c : ℝ) :
    (∑ e, ((q e : EReal) * c) * k e) = (∑ e, (q e : EReal) * k e) * c := by
  simp only [← EReal.coe_mul, ← coe_sum, Finset.sum_mul]
  congr 2
  funext e
  ring

/-- A scaled inner product of real vectors is a real number. -/
theorem dot_real (q k : Fin n → ℝ) (c : ℝ) :
    (∑ e, (q e : EReal) * k e) * (c : EReal) = (((∑ e, q e * k e) * c : ℝ) : EReal) := by
  simp only [EReal.coe_mul, coe_sum]

/-- ONE ROW OF ATTENTION: the kernel's row, over scores whose query is scaled before the inner product, is the
    reference's row, over scores scaled after it, when the query row, the keys and the scale are real numbers. -/
theorem row_eq {d : ℕ} (hn : 0 < n) {c : EReal} (hc : ∃ x : ℝ, c = x) (q : Fin d → EReal) (hq : ∀ e, ∃ x : ℝ, q e = x)
    (key : Fin n → Fin d → EReal) (hk : ∀ k e, ∃ x : ℝ, key k e = x) (v : Fin n → EReal) :
    quotient (fun k => ∑ e, (q e * c) * key k e) v = weighted (fun k => (∑ e, q e * key k e) * c) v := by
  obtain ⟨c', rfl⟩ := hc
  choose q' hq' using hq
  choose k' hk' using hk
  simp only [hq', hk', scale_dot, dot_real]
  exact quotient_eq_weighted hn _ v

end Cert.Softmax

end
-- ==== Proof.Literals.lean ====
/-
  The literals both programs write, and the test for a finite number, as extended reals: what the scale is, what the
  two infinities' bit patterns denote, and what `|x| < inf` says of `x`.
-/
module

public import proofs.«01_k».proof.Proof.Softmax
public import Idealize.ShloMosaic.PureOps.Ideal.Laws
public import Idealize.ShloMosaic.Lib.IdealHost

@[expose] public section

noncomputable section

namespace Cert.Softmax

open Idealize.ShloMosaic

/-- The scale of the scores: one over the square root of the rows' length. -/
abbrev scale : EReal := (((Real.sqrt 128)⁻¹ : ℝ) : EReal)

/-- The initial value of a maximum, the f32 pattern of minus infinity, is the least extended real. -/
theorem ofBits_negInf : Ideal.ofBits .f32 0xFF800000#32 = ⊥ := by simp [Ideal.ofBits, Ideal.ieee]

/-- The f32 pattern of plus infinity is the greatest extended real. -/
theorem ofBits_posInf : Ideal.ofBits .f32 0x7F800000#32 = ⊤ := by simp [Ideal.ofBits, Ideal.ieee]

/-- The scale is a real number. -/
theorem scale_real : ∃ x : ℝ, scale = x := ⟨_, rfl⟩

/-- The f32 pattern of the rows' length. -/
theorem ofBits_128 : Ideal.ofBits .f32 0x43000000#32 = ((128 : ℝ) : EReal) := by
  unfold Ideal.ofBits Ideal.ieee
  dsimp only
  rw [if_neg (by decide), if_neg (by decide)]
  refine congrArg _ ?_
  rw [if_neg (by decide), show (BitVec.extractLsb' 23 8 0x43000000#32).toNat = 134 by decide,
    show (BitVec.extractLsb' 0 23 0x43000000#32).toNat = 0 by decide]
  norm_num

/-- The scale as the reference computes it: the quotient of the literals one and the root of 128. -/
theorem one_div_sqrt :
    FloatOps.hostDivf (FloatOps.ofBits (F := Ideal) .f32 0x3F800000#32)
      (FloatOps.hostUnary .sqrt (FloatOps.ofBits (F := Ideal) .f32 0x43000000#32)) = scale := by
  show Ideal.div (Ideal.ofBits .f32 0x3F800000#32) (Ideal.sqrt (Ideal.ofBits .f32 0x43000000#32)) = scale
  rw [ofBits_128, Ideal.ofBits_one_f32, Ideal.sqrt_coe, if_neg (by norm_num),
    Ideal.div_coe (Real.sqrt_ne_zero'.mpr (by norm_num)), one_mul, one_div]

/-- The test `|x| < inf`, as the programs print it, is one exactly when `max x (-x)` is below the greatest extended
    real. -/
theorem finite_test (x : Ideal .f32) :
    (FloatOps.cmpf .olt (FloatOps.hostAbsf x) (FloatOps.ofBits (F := Ideal) .f32 0x7F800000#32) : BitVec 1) = 1#1
      ↔ max x (-x) < (⊤ : EReal) := by
  rw [Ideal.hostAbsf_def, Ideal.absf_def, Ideal.cmpf_def, show (FloatOps.ofBits (F := Ideal) .f32 0x7F800000#32) = (⊤ : EReal) from ofBits_posInf]
  have hb : ∀ b : Bool, BitVec.ofBool b = 1#1 ↔ b = true := by decide
  exact (hb _).trans decide_eq_true_iff

/-- The shift the reference's log-sum-exp takes: `x` where the test finds it finite, else zero. -/
theorem select_finite (x : Ideal .f32) :
    Scalar.select (FloatOps.cmpf .olt (FloatOps.hostAbsf x) (FloatOps.ofBits (F := Ideal) .f32 0x7F800000#32)) x
      (FloatOps.ofBits (F := Ideal) .f32 0x00000000#32) = finiteOrZero x := by
  unfold Scalar.select finiteOrZero
  by_cases h : max x (-x) < (⊤ : EReal)
  · exact (if_pos ((finite_test x).mpr h)).trans (if_pos h).symm
  · refine (if_neg fun h' => h ((finite_test x).mp h')).trans (Eq.trans ?_ (if_neg h).symm)
    show Ideal.ofBits .f32 0x00000000#32 = 0
    simp [Ideal.ofBits, Ideal.ieee]

/-- An extended real that passes the test is a real number. -/
theorem real_of_finite {x : EReal} (h : max x (-x) < ⊤) : ∃ r : ℝ, x = r := by
  refine ⟨x.toReal, (EReal.coe_toReal (ne_top_of_lt (lt_of_le_of_lt (le_max_left _ _) h)) fun hb => ?_).symm⟩
  rw [hb, EReal.neg_bot, max_eq_right bot_le] at h
  exact lt_irrefl _ h

end Cert.Softmax

end
-- ==== Proof.Rows.lean ====
/-
  What the kernel's body computes on one sub-block of 512 query rows, and on the whole block of 2048 rows it stores.

  The body does the same arithmetic four times, on query rows 0–511, 512–1023, 1024–1535 and 1536–2047, each against all
  2048 keys and values held in the two scratch buffers. The text is cut into parts at different places, so the four
  sub-blocks are four different terms; each of them is the first one (`second`, `third`, `fourth`), and the first one is
  read at an index once (`sub_block_apply`).
-/
module

public import proofs.«01_k».proof.Proof.Literals
public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

namespace Cert.KernelIdeal.Value

open Cert.KernelIdeal Cert.KernelIdeal.Gen Cert.Softmax
open Idealize.ShloMosaic Idealize.ShloMosaic.TcCoe Idealize.SL.Sem

/-! ## The four sub-blocks are one computation -/

/-- The second sub-block, whose scores and row maxima are computed in one part of the text and used in the next, is the
    first sub-block's computation. -/
theorem second (kb vb : Vec Ideal S2048x128 .bf16) (q : Vec Ideal S1x512x128 .f32) :
    k0_pay7 vb (k0_pay5 kb q) (k0_pay6 kb q) = k0_pay4 kb vb q := rfl

/-- The third sub-block is the first's computation. -/
theorem third (kb vb : Vec Ideal S2048x128 .bf16) (q : Vec Ideal S1x512x128 .f32) :
    k0_pay8 kb vb q = k0_pay4 kb vb q := rfl

/-- The fourth sub-block, whose scaled query is computed in one part of the text and used in the next, is the first's
    computation. -/
theorem fourth (kb vb : Vec Ideal S2048x128 .bf16) (q : Vec Ideal S1x512x128 .f32) :
    k0_pay1 kb vb (k0_pay9 q) (constant S512x2048 .f32 0x00000000#32) = k0_pay4 kb vb q := rfl

/-- The kernel's named scale is the scale. -/
theorem scale_named : (Named.named κ "scale" 0x3DB504F3#32 : Ideal .f32) = scale :=
  IdealRules.named_const.ideal_named_scalar _ _ _ _ rfl

/-- ONE SUB-BLOCK AT AN INDEX: row `r`, lane `d` of the result is the softmax quotient of the row's 2048 scores, each the
    inner product of the scaled query row with a key, against lane `d` of the 2048 values. -/
theorem sub_block_apply (kb vb : Vec Ideal S2048x128 .bf16) (q : Vec Ideal S1x512x128 .f32) (j : S1x512x128.Idx) :
    k0_pay4 kb vb q j
      = quotient (fun k : Fin 2048 => ∑ e : Fin 128, q (ix3 0 (j 1) e) * scale * kb (ix2 k e))
          (fun k => vb (ix2 k (j 2))) := by
  pointwise [k0_pay4]
  simp only [ofBits_negInf, scale_named]
  rfl

/-! ## The whole block -/

/-- The block of 2048 query rows the body leaves, from its blocks of queries, keys and values. -/
def attnBlock (q k v : Vec Ideal S1x2048x128 .f32) : Vec Ideal S1x2048x128 .f32 := fun y =>
  quotient (fun t : Fin 2048 => ∑ e : Fin 128, q (ix3 0 (y 1) e) * scale * k (ix3 0 t e)) (fun t => v (ix3 0 t (y 2)))

/-- A sub-block's store, at its own rows of the block: when the scratch buffers hold the keys and the values and the query
    rows are read at the rectangle `r` that starts at row `o`, what is stored through that rectangle is the
    block `attnBlock` there. -/
theorem store_eq (q k v : Vec Ideal S1x2048x128 .f32) (o : ℕ)
    (inb : ∀ a, (![0, o, 0] : Fin 3 → ℕ) a + S1x512x128.size a ≤ S1x2048x128.size a) (x : S1x512x128.Idx)
    (kb vb : Vec Ideal S2048x128 .bf16) (hk : ∀ t e, kb (ix2 t e) = k (ix3 0 t e)) (hv : ∀ t e, vb (ix2 t e) = v (ix3 0 t e)) :
    k0_pay4 kb vb (View.ld q (Rect.unit (s := S1x2048x128) ![0, o, 0] S1x512x128.size inb)) x
      = attnBlock q k v ((Rect.unit (s := S1x2048x128) ![0, o, 0] S1x512x128.size inb).emb x) := by
  have hin : ∀ e : Fin 128, (Rect.unit (s := S1x2048x128) ![0, o, 0] S1x512x128.size inb).idx (ix3 0 (x 1) e)
      = ix3 0 ((Rect.unit (s := S1x2048x128) ![0, o, 0] S1x512x128.size inb).emb x 1) e := fun e => by
    funext a
    apply Fin.ext
    fin_cases a
    · rfl
    · rfl
    · show 0 + 1 * e.val = e.val
      omega
  have hout : (Rect.unit (s := S1x2048x128) ![0, o, 0] S1x512x128.size inb).emb x 2 = x 2 := Fin.ext (by
    show 0 + 1 * (x 2).val = (x 2).val
    omega)
  rw [sub_block_apply]
  unfold attnBlock
  simp only [hk, View.ld, hin, hout]
  exact congrArg (quotient _) (funext fun t => hv t _)

/-- The offset of a whole buffer of rank two. -/
theorem offset2 : (![0, 0] : Fin 2 → ℕ) = fun _ => 0 := funext fun a => by fin_cases a <;> rfl

/-- The offset of a whole buffer of rank three. -/
theorem offset3 : (![0, 0, 0] : Fin 3 → ℕ) = fun _ => 0 := funext fun a => by fin_cases a <;> rfl

/-- The scratch copy of the keys is the block of keys: dropping the unit axis and narrowing to bf16 change no
    extended real. -/
theorem keys_apply (k : Vec Ideal S1x2048x128 .f32) (t : Fin 2048) (e : Fin 128) : k0_pay2 k (ix2 t e) = k (ix3 0 t e) := by
  pointwise [k0_pay2]

/-- The scratch copy of the values is the block of values. -/
theorem values_apply (v : Vec Ideal S1x2048x128 .f32) (t : Fin 2048) (e : Fin 128) : k0_pay3 v (ix2 t e) = v (ix3 0 t e) := by
  pointwise [k0_pay3]

/-- WHAT THE BODY LEAVES IN THE OUTPUT BLOCK at any point, from the blocks of queries, keys and values it was given: the
    four stores tile the block, and each stores its own rows of `attnBlock`. -/
theorem out_eq (c : Dev nD) (i : grid0.Coords) (a2 : Memref sig .tc .vmem S1x2048x128 .f32) (h2 : a2.IsWhole)
    (a3 : Memref sig .tc .vmem S1x2048x128 .f32) (h3 : a3.IsWhole) (a4 : Memref sig .tc .vmem S1x2048x128 .f32) (h4 : a4.IsWhole)
    (a5 : Memref sig .tc .vmem S1x2048x128 .f32) (h5 : a5.IsWhole) (a6 : Memref sig .tc .vmem S2048x128 .bf16) (h6 : a6.IsWhole)
    (a7 : Memref sig .tc .vmem S2048x128 .bf16) (h7 : a7.IsWhole) (hc : cond0_0 i) (q k v : Vec Ideal S1x2048x128 .f32) :
    out0_A_3 c i a2 h2 a3 h3 a4 h4 a5 h5 a6 h6 a7 h7 hc q k v = attnBlock q k v := by
  unfold out0_A_3
  rw [View.read_writes_eq_canon _ _ _ (cover0_A_3 c i a2 h2 a3 h3 a4 h4 a5 h5 a6 h6 a7 h7 hc q k v)]
  funext y
  refine View.canon_apply_of_pieces (attnBlock q k v) _ ?_ y (cover0_A_3 c i a2 h2 a3 h3 a4 h4 a5 h5 a6 h6 a7 h7 hc q k v y)
  unfold kernelRun0_A
  dsimp only
  sl_unfold_words
  simp only [View.readCov_unit_zero (S := S2048x128) _ offset2, View.readAt_eq_ld, h2.read_unread, h3.read_unread, h4.read_unread,
    View.ld_unit_zero (S := S1x2048x128) offset3, second, third, fourth, List.forall_mem_cons, List.not_mem_nil,
    IsEmpty.forall_iff, implies_true, and_true]
  have hrows := fun o inb x => store_eq q k v o inb x _ _ (keys_apply k) (values_apply v)
  exact ⟨hrows 1536 _, hrows 1024 _, hrows 512 _, hrows 0 _⟩

end Cert.KernelIdeal.Value

end
-- ==== Proof.Array.lean ====
/-
  What the kernel's arrays hold: each of the sixteen grid points reads one head of the queries, keys and values and writes
  that head of the result, so after the last point the result array is one function of the three input arrays, and
  @main's result is that array with the unit axis put back.
-/
module

public import proofs.«01_k».proof.Proof.Rows
public import Idealize.ShloMosaic.Lib.Claim

@[expose] public section

set_option maxRecDepth 16384

noncomputable section

namespace Cert.KernelIdeal.Value

open Cert.KernelIdeal Cert.KernelIdeal.Gen Cert.Softmax
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Attention of whole arrays of sixteen heads, head by head and row by row, as the kernel orders its arithmetic. -/
def attnHeads (q k v : Vec Ideal S16x2048x128 .f32) : Vec Ideal S16x2048x128 .f32 := fun y =>
  quotient (fun t : Fin 2048 => ∑ e : Fin 128, q (ix3 (y 0) (y 1) e) * scale * k (ix3 (y 0) t e))
    (fun t => v (ix3 (y 0) t (y 2)))

/-- The block of every window at point `t` is head `t`, whole. -/
theorem index_eq (t : Fin cfg0.N) :
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) := by
  rcases fin_N0 t with rfl | rfl | rfl | rfl | rfl | rfl | rfl | rfl | rfl | rfl | rfl | rfl | rfl | rfl | rfl | rfl <;>
    decide

/-- The head a grid point works on. -/
abbrev head (t : Fin cfg0.N) : Fin 16 := t.cast N_0

/-- The queries' block at point `t` is head `t` of the queries. -/
theorem query_block (c : Dev nD) (t : Fin cfg0.N) (r : Fin 2048) (e : Fin 128) :
    (iblk m c 0 t : Vec Ideal S1x2048x128 .f32) (ix3 0 r e) = V m c main_v0 (ix3 (head t) r e) := by
  unfold iblk
  rw [View.read_apply]
  show V m c main_v0 _ = _
  have hi := (index_eq t).1
  congr 1
  funext a
  apply Fin.ext
  match a with
  | ⟨0, _⟩ => show win0_0.index t 0 * 1 + 1 * 0 = t.val; rw [hi.1]; omega
  | ⟨1, _⟩ => show win0_0.index t 1 * 2048 + 1 * r.val = r.val; rw [hi.2.1]; omega
  | ⟨2, _⟩ => show win0_0.index t 2 * 128 + 1 * e.val = e.val; rw [hi.2.2]; omega

/-- The keys' block at point `t` is head `t` of the keys. -/
theorem key_block (c : Dev nD) (t : Fin cfg0.N) (r : Fin 2048) (e : Fin 128) :
    (iblk m c 1 t : Vec Ideal S1x2048x128 .f32) (ix3 0 r e) = V m c main_v1 (ix3 (head t) r e) := by
  unfold iblk
  rw [View.read_apply]
  show V m c main_v1 _ = _
  have hi := (index_eq t).2.1
  congr 1
  funext a
  apply Fin.ext
  match a with
  | ⟨0, _⟩ => show win0_1.index t 0 * 1 + 1 * 0 = t.val; rw [hi.1]; omega
  | ⟨1, _⟩ => show win0_1.index t 1 * 2048 + 1 * r.val = r.val; rw [hi.2.1]; omega
  | ⟨2, _⟩ => show win0_1.index t 2 * 128 + 1 * e.val = e.val; rw [hi.2.2]; omega

/-- The values' block at point `t` is head `t` of the values. -/
theorem value_block (c : Dev nD) (t : Fin cfg0.N) (r : Fin 2048) (e : Fin 128) :
    (iblk m c 2 t : Vec Ideal S1x2048x128 .f32) (ix3 0 r e) = V m c main_v2 (ix3 (head t) r e) := by
  unfold iblk
  rw [View.read_apply]
  show V m c main_v2 _ = _
  have hi := (index_eq t).2.2.1
  congr 1
  funext a
  apply Fin.ext
  match a with
  | ⟨0, _⟩ => show win0_2.index t 0 * 1 + 1 * 0 = t.val; rw [hi.1]; omega
  | ⟨1, _⟩ => show win0_2.index t 1 * 2048 + 1 * r.val = r.val; rw [hi.2.1]; omega
  | ⟨2, _⟩ => show win0_2.index t 2 * 128 + 1 * e.val = e.val; rw [hi.2.2]; omega

/-- The result array, from the three arrays the kernel reads. -/
abbrev result (c : Dev nD) : Buf (Elt Ideal) ((c : Thread nD τ).loc main_v3) :=
  attnHeads (V m c main_v0) (V m c main_v1) (V m c main_v2)

/-- Point `t` writes back head `t` of the result. -/
theorem flushed_eq (c : Dev nD) (t : Fin cfg0.N) (_hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  unfold outsAt0
  rw [out_eq]
  funext j
  rw [View.read_apply]
  have hi := (index_eq t).2.2.2
  have h0 : ((cfg0.win 3).blk t).view.emb j 0 = head t := Fin.ext (by
    show win0_3.index t 0 * 1 + 1 * (j 0).val = t.val
    have : (j 0).val < 1 := (j 0).isLt
    rw [hi.1]; omega)
  have h1 : ((cfg0.win 3).blk t).view.emb j 1 = j 1 := Fin.ext (by
    show win0_3.index t 1 * 2048 + 1 * (j 1).val = (j 1).val
    rw [hi.2.1]; omega)
  have h2 : ((cfg0.win 3).blk t).view.emb j 2 = j 2 := Fin.ext (by
    show win0_3.index t 2 * 128 + 1 * (j 2).val = (j 2).val
    rw [hi.2.2]; omega)
  show attnBlock (iblk m c 0 t) (iblk m c 1 t) (iblk m c 2 t) j = attnHeads (V m c main_v0) (V m c main_v1) (V m c main_v2) _
  unfold attnBlock attnHeads
  rw [h0, h1, h2]
  refine congrArg₂ quotient (funext fun s => Finset.sum_congr rfl fun e _ => ?_) (funext fun s => value_block m c t s _)
  exact congrArg₂ (· * scale * ·) (query_block m c t _ e) (key_block m c t s e)

/-- Every cell of the result array is in the block of some point, its head's, so the array ends holding `result`. -/
theorem final_result (c : Dev nD) : (dats m 0 c).arrAt 3 cfg0.N = result m c :=
  (dats m 0 c).arrAt_eq_of_cover 3 (result m c) (flushed_eq m c) fun i => by
    have hN : cfg0.N = 16 := N_0
    have b0 : (i 0 : Nat) < 16 := (i 0).isLt
    have b1 : (i 1 : Nat) < 2048 := (i 1).isLt
    have b2 : (i 2 : Nat) < 128 := (i 2).isLt
    let t : Fin cfg0.N := ⟨i 0, by omega⟩
    have hi := (index_eq t).2.2.2
    refine ⟨t, flush0_3 t, ?_⟩
    show i ∈ ((View.whole main_v3).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [hi.1]; show (i 0 : Nat) * 1 ≤ (i 0 : Nat) ∧ (i 0 : Nat) < (i 0 : Nat) * 1 + 1; omega
    | ⟨1, _⟩ =>
      show win0_3.index t 1 * 2048 ≤ (i 1 : Nat) ∧ (i 1 : Nat) < win0_3.index t 1 * 2048 + 2048
      rw [hi.2.1]; omega
    | ⟨2, _⟩ =>
      show win0_3.index t 2 * 128 ≤ (i 2 : Nat) ∧ (i 2 : Nat) < win0_3.index t 2 * 128 + 128
      rw [hi.2.2]; omega

/-! ## @main's arguments and result, with their unit axis -/

/-- Attention of @main's arguments, as the kernel orders its arithmetic. -/
def attn (q k v : Vec Ideal S1x16x2048x128 .f32) : Vec Ideal S1x16x2048x128 .f32 := fun y =>
  quotient (fun t : Fin 2048 => ∑ e : Fin 128, q (ix4 0 (y 1) (y 2) e) * scale * k (ix4 0 (y 1) t e))
    (fun t => v (ix4 0 (y 1) t (y 3)))

/-- Dropping the unit axis of an argument moves no element. -/
theorem drop_apply (x : Vec Ideal S1x16x2048x128 .f32) (h : Fin 16) (r : Fin 2048) (e : Fin 128) :
    shapeCast S16x2048x128 x shapeCasts_S1x16x2048x128_S16x2048x128 (ix3 h r e) = x (ix4 0 h r e) := by
  pointwise []

/-- Attention head by head, with the unit axis dropped before and put back after, is attention of the arguments. -/
theorem attn_eq (q k v : Vec Ideal S1x16x2048x128 .f32) :
    shapeCast S1x16x2048x128 (attnHeads (shapeCast S16x2048x128 q shapeCasts_S1x16x2048x128_S16x2048x128)
        (shapeCast S16x2048x128 k shapeCasts_S1x16x2048x128_S16x2048x128)
        (shapeCast S16x2048x128 v shapeCasts_S1x16x2048x128_S16x2048x128)) shapeCasts_S16x2048x128_S1x16x2048x128
      = attn q k v := by
  funext y
  pointwise []
  unfold attnHeads attn
  refine congrArg₂ quotient (funext fun s => Finset.sum_congr rfl fun e _ => ?_) (funext fun s => drop_apply v _ s _)
  exact congrArg₂ (· * scale * ·) (drop_apply q _ _ e) (drop_apply k _ s e)

/-- The lines after the region leave in @main's result attention of @main's arguments. -/
theorem tail_eq (c : Dev nD) : Pipeline.afterTail₀ cfgs (dats m) 0 (V0 m) [hostOps1] c main_v4
    = attn (m ((c : Thread nD τ).loc main_arg0)) (m ((c : Thread nD τ).loc main_arg1)) (m ((c : Thread nD τ).loc main_arg2)) := by
  have h3 : Pipeline.withArrays (cfgs 0).spec c (V0 m c) (fun w => (dats m 0 c).arrAt w (cfgs 0).N) (Proc.devRef .tc main_v3)
      = result m c :=
    (Pipeline.withArrays_arr spec0 (by decide) c (V0 m c) (fun w => (dats m 0 c).arrAt w cfg0.N) 3).trans (final_result m c)
  unfold Pipeline.afterTail₀
  show StableHlo.after hostOps1 _ _ = _
  simp only [StableHlo.after_cons, StableHlo.after_nil]
  after_results_simp
  rw [h3]
  unfold result
  entry_read
  exact attn_eq _ _ _

/-- THE KERNEL'S RUN, READ: @main's result ends at attention of its arguments, which end unchanged. -/
theorem run : θ_run defs (onTc (τ := τ) (main (F := Ideal))) ⟨m, fun _ => 0, ρ⟩ fun r => ∀ c : Dev nD,
      r.2.mem ((c : Thread nD τ).loc main_v4)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v4 (Pipeline.mem_restRefs_of main_v4 (by decide) (by decide))).trans (tail_eq m c), h.2 c⟩)
    (θ_run_and (run_main m ρ) (unchanged m ρ))

end Cert.KernelIdeal.Value

end
-- ==== Proof.Reference.lean ====
/-
  What the reference computes: the scaled scores of every query row, their log-sum-exp, and the values weighted by the
  exponentials of the scores less it. Each stage of the reference is read at an index; the last theorem is the reference's
  result at an index.
-/
module

public import proofs.«01_k».proof.Proof.Literals
public import proofs.«01_k».proof.Proof.Gen.ReferenceIdeal.Read
public import Idealize.ShloMosaic.Lib.Pipeline.Value
public import Idealize.ShloMosaic.Lib.Tactic
public import Idealize.ShloMosaic.Lib.Pointwise
public import Idealize.ShloMosaic.Lib.Claim
public import Idealize.ShloMosaic.Lib.Quiescent

@[expose] public section

set_option maxRecDepth 16384

noncomputable section

namespace Cert.ReferenceIdeal.Value

open Cert.ReferenceIdeal Cert.ReferenceIdeal.Gen Cert.ReferenceIdeal.Read Cert.Softmax
open Idealize.ShloMosaic Idealize.ShloMosaic.TcCoe Idealize.SL.Sem

/-- The scaled scores of one query row. -/
abbrev scores (q k : Vec Ideal S1x16x2048x128 .f32) (h : Fin 16) (r t : Fin 2048) : EReal :=
  (∑ e : Fin 128, q (ix4 0 h r e) * k (ix4 0 h t e)) * scale

/-- The reference's scale, one divided by the square root of the rows' length. -/
theorem scale_apply (i : S_.Idx) : val_main_v1 (F := Ideal) i = scale := by
  rw [val_main_v1_apply, val_main_v0_apply, val_main_cst_apply, val_main_cst_0_apply]
  exact one_div_sqrt

/-- The score of query row `r` and key `t` of head `h`. -/
theorem score_apply (q k : Vec Ideal S1x16x2048x128 .f32) (h : Fin 16) (r t : Fin 2048) :
    val_main_v4 (F := Ideal) q k (ix4 0 h r t) = scores q k h r t := by
  unfold val_main_v4 val_main_v3
  have hc := scale_apply
  generalize val_main_v1 (F := Ideal) = c at *
  pointwise [val_main_v2]
  rw [hc]

/-- The greatest score of a row. -/
theorem max_apply (q k : Vec Ideal S1x16x2048x128 .f32) (h : Fin 16) (r : Fin 2048) :
    val_main_v5 (F := Ideal) q k (ix3 0 h r) = rowMax (scores q k h r) := by
  unfold val_main_v5
  have hs := score_apply q k h r
  generalize val_main_v4 (F := Ideal) q k = y at *
  pointwise [val_main_cst_1]
  rw [ofBits_negInf]
  exact congrArg (fun f => Finset.univ.fold max ⊥ f) (funext hs)

/-- The shift of a row's log-sum-exp. -/
theorem shift_apply (q k : Vec Ideal S1x16x2048x128 .f32) (h : Fin 16) (r : Fin 2048) :
    val_main_v11 (F := Ideal) q k (ix4 0 h r 0) = finiteOrZero (rowMax (scores q k h r)) := by
  rw [val_main_v11_apply, val_main_v9_apply, val_main_v7_apply, val_main_v8_apply, val_main_v10_apply,
    val_main_cst_2_apply, val_main_cst_3_apply, select_finite, val_main_v6_apply]
  have hi : idx_main_v6 (ix4 0 h r 0) = ix3 0 h r := funext fun a => by fin_cases a <;> rfl
  rw [hi, max_apply]

/-- The log-sum-exp of a row. -/
theorem lse_apply (q k : Vec Ideal S1x16x2048x128 .f32) (h : Fin 16) (r : Fin 2048) :
    val_main_v18 (F := Ideal) q k (ix4 0 h r 0) = logSumExp (scores q k h r) := by
  unfold val_main_v18 val_main_v17 val_main_v16 val_main_v15 val_main_v14 val_main_v13 val_main_v12
  have hs := score_apply q k h r
  have hm := shift_apply q k h r
  generalize val_main_v11 (F := Ideal) q k = y at *
  generalize val_main_v4 (F := Ideal) q k = z at *
  pointwise [val_main_cst_4]
  unfold logSumExp
  rw [hm]
  simp only [hs]

/-- THE REFERENCE AT AN INDEX: lane `d` of query row `r` of head `h`. -/
theorem result_apply (q k v : Vec Ideal S1x16x2048x128 .f32) (h : Fin 16) (r : Fin 2048) (d : Fin 128) :
    val_main_v22 (F := Ideal) q k v (ix4 0 h r d) = weighted (scores q k h r) (fun t => v (ix4 0 h t d)) := by
  unfold val_main_v22 val_main_v21 val_main_v20 val_main_v19
  have hs := score_apply q k h r
  have hl := lse_apply q k h r
  generalize val_main_v18 (F := Ideal) q k = y at *
  generalize val_main_v4 (F := Ideal) q k = z at *
  pointwise []
  unfold weighted
  simp only [hl, hs]

/-- THE REFERENCE'S RUN, READ: the result ends at the stages' composition, and the arguments end unchanged. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = val_main_v22 (F := Ideal) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v22_eq _ _ _), (h c).2⟩) (run (F := Ideal) m ρ)

/-- The reference runs, its arguments end unchanged, and every semaphore counter ends at zero: it declares no semaphore. -/
theorem quiescent (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run_read m ρ)

end Cert.ReferenceIdeal.Value

end
-- ==== Proof.Equation.lean ====
/-
  The equation: where the precondition holds, every query and every key is a real number, and attention as the kernel
  orders it is attention as the reference writes it, at every index.
-/
module

public import proofs.«01_k».proof.Defs
public import proofs.«01_k».proof.Proof.Array
public import proofs.«01_k».proof.Proof.Reference
public import proofs.«01_k».proof.Proof.Gen.Pre_finite_query_key

@[expose] public section

set_option maxRecDepth 16384

noncomputable section

namespace Cert.Equation

open Cert.Softmax
open Idealize.ShloMosaic Idealize.ShloMosaic.TcCoe Idealize.SL.Sem

/-- Every element of an array is a real number: none is an infinity. -/
def AllReal (x : Vec Ideal Cert.KernelIdeal.S1x16x2048x128 .f32) : Prop := ∀ i, ∃ r : ℝ, (x i : EReal) = r

/-- What the precondition says: every query and every key is a real number. -/
theorem reals_of_pre {m : (ℓ : Loc Cert.KernelIdeal.nD Cert.KernelIdeal.τ Cert.KernelIdeal.sig) → Buf (Elt Ideal) ℓ}
    (h : Pre_KernelIdeal_finite_query_key (hPre_finite_query_key := Cert.Pre_finite_query_key.Gen.facts) m)
    (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1)) :=
  ⟨fun i => real_of_finite ((finite_test _).mp (congrFun (h c).1 i)),
    fun i => real_of_finite ((finite_test _).mp (congrFun (h c).2 i))⟩

/-- THE EQUATION, on whole arrays: for real queries and keys and any values, attention as the kernel orders it is the
    reference's result. -/
theorem attn_eq_reference (q k v : Vec Ideal Cert.KernelIdeal.S1x16x2048x128 .f32)
    (hq : AllReal q) (hk : AllReal k) :
    Cert.KernelIdeal.Value.attn q k v = Cert.ReferenceIdeal.Read.val_main_v22 (F := Ideal) q k v := by
  funext y
  obtain ⟨h, r, d, rfl⟩ : ∃ (h : Fin 16) (r : Fin 2048) (d : Fin 128), y = ix4 0 h r d :=
    ⟨y 1, y 2, y 3, funext fun a => by
      match a with
      | ⟨0, _⟩ => exact Fin.ext (by have : (y 0).val < 1 := (y 0).isLt; show (y 0).val = 0; omega)
      | ⟨1, _⟩ => rfl
      | ⟨2, _⟩ => rfl
      | ⟨3, _⟩ => rfl⟩
  rw [Cert.ReferenceIdeal.Value.result_apply q k v h r d]
  exact row_eq (by decide) scale_real (fun e => q (ix4 0 h r e)) (fun e => hq _) (fun t e => k (ix4 0 h t e))
    (fun t e => hk _) (fun t => v (ix4 0 h t d))

end Cert.Equation

end
-- ==== Proof.lean ====
/-
  The proof of `Cert.Claim`. The kernel's runs, the reference's run and the equation are theorems of the modules imported
  here; this module puts them together.

  * `quiescent_Kernel`, `quiescent_KernelIdeal` and the latter under the precondition: the generated frame run.
  * `quiescent_ReferenceIdeal`, with and without the precondition: the reference's run; it has no semaphore.
  * `preserves_Kernel_KernelIdeal`: the one constant that was named, the scale, is `1 / √128` over the extended
    reals, as the table of names says.
  * `algebraic_KernelIdeal_ReferenceIdeal_pre_finite_query_key`: both programs' one result is the attention of the
    arguments (`Value.run`, `Value.run_read`, `Equation.attn_eq_reference`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_query_key
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- From memories that agree on the arguments, where the kernel's queries and keys are finite, the idealized kernel and the
    reference end with the same result, their arguments unchanged. -/
theorem same_result : algebraic_KernelIdeal_ReferenceIdeal_pre_finite_query_key (hKernelIdeal := Cert.KernelIdeal.Gen.facts)
    (hReferenceIdeal := Cert.ReferenceIdeal.Gen.facts) (hPre_finite_query_key := Cert.Pre_finite_query_key.Gen.facts) := by
  intro m g m' g' hpre hargs
  refine ⟨_, Cert.KernelIdeal.Value.run m g, ?_⟩
  refine (θ_run Cert.ReferenceIdeal.defs _ _).mono (fun _ h c => ⟨(h c).1.trans ?_, (h c).2⟩)
    (Cert.ReferenceIdeal.Value.run_read m' g')
  obtain ⟨h0, h1, h2⟩ := hargs c
  obtain ⟨hq, hk⟩ := Cert.Equation.reals_of_pre hpre c
  rw [h0, h1, h2]
  exact (Cert.Equation.attn_eq_reference _ _ _ hq hk).symm

/-- Everything the certificate claims. -/
theorem claim : Cert.Claim :=
  ⟨Cert.Kernel.Gen.facts, Cert.KernelIdeal.Gen.facts, Cert.ReferenceIdeal.Gen.facts, Cert.Pre_finite_query_key.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Value.quiescent m ρ,
    fun m ρ _ => Cert.ReferenceIdeal.Value.quiescent m ρ,
    IdealRules.named_const.statement Cert.KernelIdeal.κ "scale" .f32 0x3DB504F3#32 (((Real.sqrt 128)⁻¹ : ℝ) : EReal) rfl,
    same_result⟩

end Cert.Proof

end
